-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v193) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x330 : Shape := ⟨2, ![16384, 330]⟩
abbrev S4096x330 : Shape := ⟨2, ![4096, 330]⟩
abbrev S4096x1 : Shape := ⟨2, ![4096, 1]⟩
abbrev S4096x329 : Shape := ⟨2, ![4096, 329]⟩

abbrev nBuf : Space → Nat
  | .hbm => 2
  | .vmem => 4
  | .smem => 0
  | _ => 0

abbrev bufTy : (tb : Table) → Fin (tcTables nBuf tb) → BufTy
  | .hbm, ⟨0, _⟩ => ⟨S16384x330, .f32⟩
  | .hbm, ⟨1, _⟩ => ⟨S16384x330, .f32⟩
  | .local _ .vmem, ⟨0, _⟩ => ⟨S4096x330, .f32⟩
  | .local _ .vmem, ⟨1, _⟩ => ⟨S4096x330, .f32⟩
  | .local _ .vmem, ⟨2, _⟩ => ⟨S4096x330, .f32⟩
  | .local _ .vmem, ⟨3, _⟩ => ⟨S4096x330, .f32⟩
  | _, _ => ⟨S16384x330, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x330 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x330 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x330 : Shape := ⟨2, ![16384, 330]⟩
abbrev S16384x312 : Shape := ⟨2, ![16384, 312]⟩
abbrev S16384x8 : Shape := ⟨2, ![16384, 8]⟩
abbrev S16384x2 : Shape := ⟨2, ![16384, 2]⟩
abbrev S16384x26 : Shape := ⟨2, ![16384, 26]⟩
abbrev S16384x24 : Shape := ⟨2, ![16384, 24]⟩
abbrev S16384x12 : Shape := ⟨2, ![16384, 12]⟩
abbrev S_ : Shape := ⟨0, ![]⟩
abbrev S16384x12x1 : Shape := ⟨3, ![16384, 12, 1]⟩
abbrev S16384x12x2 : Shape := ⟨3, ![16384, 12, 2]⟩
abbrev S16384x4 : Shape := ⟨2, ![16384, 4]⟩
abbrev S16384x4x1 : Shape := ⟨3, ![16384, 4, 1]⟩
abbrev S16384x4x2 : Shape := ⟨3, ![16384, 4, 2]⟩

abbrev nBuf : Space → Nat
  | .hbm => 223
  | .vmem => 0
  | .smem => 0
  | _ => 0

abbrev hbmTy0_0 (i : Nat) : BufTy := match i % 128 with
  | 0 => ⟨S16384x330, .f32⟩
  | 1 => ⟨S16384x312, .f32⟩
  | 2 => ⟨S16384x8, .f32⟩
  | 3 => ⟨S16384x8, .f32⟩
  | 4 => ⟨S16384x2, .f32⟩
  | 5 => ⟨S16384x26, .f32⟩
  | 6 => ⟨S16384x26, .f32⟩
  | 7 => ⟨S16384x26, .f32⟩
  | 8 => ⟨S16384x26, .f32⟩
  | 9 => ⟨S16384x26, .f32⟩
  | 10 => ⟨S16384x26, .f32⟩
  | 11 => ⟨S16384x26, .f32⟩
  | 12 => ⟨S16384x26, .f32⟩
  | 13 => ⟨S16384x26, .f32⟩
  | 14 => ⟨S16384x26, .f32⟩
  | 15 => ⟨S16384x26, .f32⟩
  | 16 => ⟨S16384x26, .f32⟩
  | 17 => ⟨S16384x24, .f32⟩
  | 18 => ⟨S16384x2, .f32⟩
  | 19 => ⟨S16384x12, .f32⟩
  | 20 => ⟨S16384x12, .f32⟩
  | 21 => ⟨S_, .f32⟩
  | 22 => ⟨S16384x12, .f32⟩
  | 23 => ⟨S16384x12, .i1⟩
  | 24 => ⟨S_, .f32⟩
  | 25 => ⟨S16384x12, .f32⟩
  | 26 => ⟨S16384x12, .f32⟩
  | 27 => ⟨S16384x12x1, .f32⟩
  | 28 => ⟨S16384x12x1, .f32⟩
  | 29 => ⟨S16384x12x2, .f32⟩
  | 30 => ⟨S16384x24, .f32⟩
  | 31 => ⟨S16384x26, .f32⟩
  | 32 => ⟨S16384x24, .f32⟩
  | 33 => ⟨S16384x2, .f32⟩
  | 34 => ⟨S16384x12, .f32⟩
  | 35 => ⟨S16384x12, .f32⟩
  | 36 => ⟨S_, .f32⟩
  | 37 => ⟨S16384x12, .f32⟩
  | 38 => ⟨S16384x12, .i1⟩
  | 39 => ⟨S_, .f32⟩
  | 40 => ⟨S16384x12, .f32⟩
  | 41 => ⟨S16384x12, .f32⟩
  | 42 => ⟨S16384x12x1, .f32⟩
  | 43 => ⟨S16384x12x1, .f32⟩
  | 44 => ⟨S16384x12x2, .f32⟩
  | 45 => ⟨S16384x24, .f32⟩
  | 46 => ⟨S16384x26, .f32⟩
  | 47 => ⟨S16384x24, .f32⟩
  | 48 => ⟨S16384x2, .f32⟩
  | 49 => ⟨S16384x12, .f32⟩
  | 50 => ⟨S16384x12, .f32⟩
  | 51 => ⟨S_, .f32⟩
  | 52 => ⟨S16384x12, .f32⟩
  | 53 => ⟨S16384x12, .i1⟩
  | 54 => ⟨S_, .f32⟩
  | 55 => ⟨S16384x12, .f32⟩
  | 56 => ⟨S16384x12, .f32⟩
  | 57 => ⟨S16384x12x1, .f32⟩
  | 58 => ⟨S16384x12x1, .f32⟩
  | 59 => ⟨S16384x12x2, .f32⟩
  | 60 => ⟨S16384x24, .f32⟩
  | 61 => ⟨S16384x26, .f32⟩
  | 62 => ⟨S16384x24, .f32⟩
  | 63 => ⟨S16384x2, .f32⟩
  | 64 => ⟨S16384x12, .f32⟩
  | 65 => ⟨S16384x12, .f32⟩
  | 66 => ⟨S_, .f32⟩
  | 67 => ⟨S16384x12, .f32⟩
  | 68 => ⟨S16384x12, .i1⟩
  | 69 => ⟨S_, .f32⟩
  | 70 => ⟨S16384x12, .f32⟩
  | 71 => ⟨S16384x12, .f32⟩
  | 72 => ⟨S16384x12x1, .f32⟩
  | 73 => ⟨S16384x12x1, .f32⟩
  | 74 => ⟨S16384x12x2, .f32⟩
  | 75 => ⟨S16384x24, .f32⟩
  | 76 => ⟨S16384x26, .f32⟩
  | 77 => ⟨S16384x24, .f32⟩
  | 78 => ⟨S16384x2, .f32⟩
  | 79 => ⟨S16384x12, .f32⟩
  | 80 => ⟨S16384x12, .f32⟩
  | 81 => ⟨S_, .f32⟩
  | 82 => ⟨S16384x12, .f32⟩
  | 83 => ⟨S16384x12, .i1⟩
  | 84 => ⟨S_, .f32⟩
  | 85 => ⟨S16384x12, .f32⟩
  | 86 => ⟨S16384x12, .f32⟩
  | 87 => ⟨S16384x12x1, .f32⟩
  | 88 => ⟨S16384x12x1, .f32⟩
  | 89 => ⟨S16384x12x2, .f32⟩
  | 90 => ⟨S16384x24, .f32⟩
  | 91 => ⟨S16384x26, .f32⟩
  | 92 => ⟨S16384x24, .f32⟩
  | 93 => ⟨S16384x2, .f32⟩
  | 94 => ⟨S16384x12, .f32⟩
  | 95 => ⟨S16384x12, .f32⟩
  | 96 => ⟨S_, .f32⟩
  | 97 => ⟨S16384x12, .f32⟩
  | 98 => ⟨S16384x12, .i1⟩
  | 99 => ⟨S_, .f32⟩
  | 100 => ⟨S16384x12, .f32⟩
  | 101 => ⟨S16384x12, .f32⟩
  | 102 => ⟨S16384x12x1, .f32⟩
  | 103 => ⟨S16384x12x1, .f32⟩
  | 104 => ⟨S16384x12x2, .f32⟩
  | 105 => ⟨S16384x24, .f32⟩
  | 106 => ⟨S16384x26, .f32⟩
  | 107 => ⟨S16384x24, .f32⟩
  | 108 => ⟨S16384x2, .f32⟩
  | 109 => ⟨S16384x12, .f32⟩
  | 110 => ⟨S16384x12, .f32⟩
  | 111 => ⟨S_, .f32⟩
  | 112 => ⟨S16384x12, .f32⟩
  | 113 => ⟨S16384x12, .i1⟩
  | 114 => ⟨S_, .f32⟩
  | 115 => ⟨S16384x12, .f32⟩
  | 116 => ⟨S16384x12, .f32⟩
  | 117 => ⟨S16384x12x1, .f32⟩
  | 118 => ⟨S16384x12x1, .f32⟩
  | 119 => ⟨S16384x12x2, .f32⟩
  | 120 => ⟨S16384x24, .f32⟩
  | 121 => ⟨S16384x26, .f32⟩
  | 122 => ⟨S16384x24, .f32⟩
  | 123 => ⟨S16384x2, .f32⟩
  | 124 => ⟨S16384x12, .f32⟩
  | 125 => ⟨S16384x12, .f32⟩
  | 126 => ⟨S_, .f32⟩
  | 127 => ⟨S16384x12, .f32⟩
  | _ => ⟨S16384x330, .f32⟩

abbrev hbmTy0_1 (i : Nat) : BufTy := match i % 128 with
  | 0 => ⟨S16384x12, .i1⟩
  | 1 => ⟨S_, .f32⟩
  | 2 => ⟨S16384x12, .f32⟩
  | 3 => ⟨S16384x12, .f32⟩
  | 4 => ⟨S16384x12x1, .f32⟩
  | 5 => ⟨S16384x12x1, .f32⟩
  | 6 => ⟨S16384x12x2, .f32⟩
  | 7 => ⟨S16384x24, .f32⟩
  | 8 => ⟨S16384x26, .f32⟩
  | 9 => ⟨S16384x24, .f32⟩
  | 10 => ⟨S16384x2, .f32⟩
  | 11 => ⟨S16384x12, .f32⟩
  | 12 => ⟨S16384x12, .f32⟩
  | 13 => ⟨S_, .f32⟩
  | 14 => ⟨S16384x12, .f32⟩
  | 15 => ⟨S16384x12, .i1⟩
  | 16 => ⟨S_, .f32⟩
  | 17 => ⟨S16384x12, .f32⟩
  | 18 => ⟨S16384x12, .f32⟩
  | 19 => ⟨S16384x12x1, .f32⟩
  | 20 => ⟨S16384x12x1, .f32⟩
  | 21 => ⟨S16384x12x2, .f32⟩
  | 22 => ⟨S16384x24, .f32⟩
  | 23 => ⟨S16384x26, .f32⟩
  | 24 => ⟨S16384x24, .f32⟩
  | 25 => ⟨S16384x2, .f32⟩
  | 26 => ⟨S16384x12, .f32⟩
  | 27 => ⟨S16384x12, .f32⟩
  | 28 => ⟨S_, .f32⟩
  | 29 => ⟨S16384x12, .f32⟩
  | 30 => ⟨S16384x12, .i1⟩
  | 31 => ⟨S_, .f32⟩
  | 32 => ⟨S16384x12, .f32⟩
  | 33 => ⟨S16384x12, .f32⟩
  | 34 => ⟨S16384x12x1, .f32⟩
  | 35 => ⟨S16384x12x1, .f32⟩
  | 36 => ⟨S16384x12x2, .f32⟩
  | 37 => ⟨S16384x24, .f32⟩
  | 38 => ⟨S16384x26, .f32⟩
  | 39 => ⟨S16384x24, .f32⟩
  | 40 => ⟨S16384x2, .f32⟩
  | 41 => ⟨S16384x12, .f32⟩
  | 42 => ⟨S16384x12, .f32⟩
  | 43 => ⟨S_, .f32⟩
  | 44 => ⟨S16384x12, .f32⟩
  | 45 => ⟨S16384x12, .i1⟩
  | 46 => ⟨S_, .f32⟩
  | 47 => ⟨S16384x12, .f32⟩
  | 48 => ⟨S16384x12, .f32⟩
  | 49 => ⟨S16384x12x1, .f32⟩
  | 50 => ⟨S16384x12x1, .f32⟩
  | 51 => ⟨S16384x12x2, .f32⟩
  | 52 => ⟨S16384x24, .f32⟩
  | 53 => ⟨S16384x26, .f32⟩
  | 54 => ⟨S16384x24, .f32⟩
  | 55 => ⟨S16384x2, .f32⟩
  | 56 => ⟨S16384x12, .f32⟩
  | 57 => ⟨S16384x12, .f32⟩
  | 58 => ⟨S_, .f32⟩
  | 59 => ⟨S16384x12, .f32⟩
  | 60 => ⟨S16384x12, .i1⟩
  | 61 => ⟨S_, .f32⟩
  | 62 => ⟨S16384x12, .f32⟩
  | 63 => ⟨S16384x12, .f32⟩
  | 64 => ⟨S16384x12x1, .f32⟩
  | 65 => ⟨S16384x12x1, .f32⟩
  | 66 => ⟨S16384x12x2, .f32⟩
  | 67 => ⟨S16384x24, .f32⟩
  | 68 => ⟨S16384x26, .f32⟩
  | 69 => ⟨S16384x312, .f32⟩
  | 70 => ⟨S16384x4, .f32⟩
  | 71 => ⟨S16384x4, .f32⟩
  | 72 => ⟨S_, .f32⟩
  | 73 => ⟨S16384x4, .f32⟩
  | 74 => ⟨S16384x4, .i1⟩
  | 75 => ⟨S_, .f32⟩
  | 76 => ⟨S16384x4, .f32⟩
  | 77 => ⟨S16384x4, .f32⟩
  | 78 => ⟨S16384x4x1, .f32⟩
  | 79 => ⟨S16384x4x1, .f32⟩
  | 80 => ⟨S16384x4x2, .f32⟩
  | 81 => ⟨S16384x8, .f32⟩
  | 82 => ⟨S16384x4, .f32⟩
  | 83 => ⟨S16384x4, .f32⟩
  | 84 => ⟨S_, .f32⟩
  | 85 => ⟨S16384x4, .f32⟩
  | 86 => ⟨S16384x4, .i1⟩
  | 87 => ⟨S_, .f32⟩
  | 88 => ⟨S16384x4, .f32⟩
  | 89 => ⟨S16384x4, .f32⟩
  | 90 => ⟨S16384x4x1, .f32⟩
  | 91 => ⟨S16384x4x1, .f32⟩
  | 92 => ⟨S16384x4x2, .f32⟩
  | 93 => ⟨S16384x8, .f32⟩
  | 94 => ⟨S16384x330, .f32⟩
  | _ => ⟨S16384x330, .f32⟩

abbrev hbmTy (i : Nat) : BufTy := match i / 128 with
  | 0 => hbmTy0_0 i
  | 1 => hbmTy0_1 i
  | _ => ⟨S16384x330, .f32⟩

abbrev bufTy : (tb : Table) → Fin (tcTables nBuf tb) → BufTy
  | .hbm, ⟨i, _⟩ => hbmTy i
  | _, _ => ⟨S16384x330, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_cst : Ref sig .tc := ⟨.hbm, 21, rfl⟩
abbrev main_v20 : Ref sig .tc := ⟨.hbm, 22, rfl⟩
abbrev main_v21 : Ref sig .tc := ⟨.hbm, 23, rfl⟩
abbrev main_cst_0 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_cst_2 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst_3 : Ref sig .tc := ⟨.hbm, 51, rfl⟩
abbrev main_v46 : Ref sig .tc := ⟨.hbm, 52, rfl⟩
abbrev main_v47 : Ref sig .tc := ⟨.hbm, 53, rfl⟩
abbrev main_cst_4 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_5 : Ref sig .tc := ⟨.hbm, 66, rfl⟩
abbrev main_v59 : Ref sig .tc := ⟨.hbm, 67, rfl⟩
abbrev main_v60 : Ref sig .tc := ⟨.hbm, 68, rfl⟩
abbrev main_cst_6 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_7 : Ref sig .tc := ⟨.hbm, 81, rfl⟩
abbrev main_v72 : Ref sig .tc := ⟨.hbm, 82, rfl⟩
abbrev main_v73 : Ref sig .tc := ⟨.hbm, 83, rfl⟩
abbrev main_cst_8 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_9 : Ref sig .tc := ⟨.hbm, 96, rfl⟩
abbrev main_v85 : Ref sig .tc := ⟨.hbm, 97, rfl⟩
abbrev main_v86 : Ref sig .tc := ⟨.hbm, 98, rfl⟩
abbrev main_cst_10 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_11 : Ref sig .tc := ⟨.hbm, 111, rfl⟩
abbrev main_v98 : Ref sig .tc := ⟨.hbm, 112, rfl⟩
abbrev main_v99 : Ref sig .tc := ⟨.hbm, 113, rfl⟩
abbrev main_cst_12 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_cst_13 : Ref sig .tc := ⟨.hbm, 126, rfl⟩
abbrev main_v111 : Ref sig .tc := ⟨.hbm, 127, rfl⟩
abbrev main_v112 : Ref sig .tc := ⟨.hbm, 128, rfl⟩
abbrev main_cst_14 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_cst_15 : Ref sig .tc := ⟨.hbm, 141, rfl⟩
abbrev main_v124 : Ref sig .tc := ⟨.hbm, 142, rfl⟩
abbrev main_v125 : Ref sig .tc := ⟨.hbm, 143, rfl⟩
abbrev main_cst_16 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_cst_17 : Ref sig .tc := ⟨.hbm, 156, rfl⟩
abbrev main_v137 : Ref sig .tc := ⟨.hbm, 157, rfl⟩
abbrev main_v138 : Ref sig .tc := ⟨.hbm, 158, rfl⟩
abbrev main_cst_18 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_19 : Ref sig .tc := ⟨.hbm, 171, rfl⟩
abbrev main_v150 : Ref sig .tc := ⟨.hbm, 172, rfl⟩
abbrev main_v151 : Ref sig .tc := ⟨.hbm, 173, rfl⟩
abbrev main_cst_20 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_cst_21 : Ref sig .tc := ⟨.hbm, 186, rfl⟩
abbrev main_v163 : Ref sig .tc := ⟨.hbm, 187, rfl⟩
abbrev main_v164 : Ref sig .tc := ⟨.hbm, 188, rfl⟩
abbrev main_cst_22 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_cst_23 : Ref sig .tc := ⟨.hbm, 200, rfl⟩
abbrev main_v175 : Ref sig .tc := ⟨.hbm, 201, rfl⟩
abbrev main_v176 : Ref sig .tc := ⟨.hbm, 202, rfl⟩
abbrev main_cst_24 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_cst_25 : Ref sig .tc := ⟨.hbm, 212, rfl⟩
abbrev main_v185 : Ref sig .tc := ⟨.hbm, 213, rfl⟩
abbrev main_v186 : Ref sig .tc := ⟨.hbm, 214, rfl⟩
abbrev main_cst_26 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩

abbrev nD : Nat := 1
abbrev τ : Topo := Topo.v7x

variable {F : FTy → Type} [FloatOps F]
-- ==== Proof.Correct.Spec.lean ====
/-
  What both programs compute, stated index by index.

  A row holds 330 numbers: twelve houses of 26 columns (twelve pairs and two columns of tail data each), a staircase and
  a corridor of four pairs each, and two columns of tail data. In every pair the second number is replaced by zero where
  the first one compares equal to zero; everything else is copied.
-/
module

public import Idealize.ShloMosaic.Lib.Pipeline.Value
public import Idealize.ShloMosaic.Lib.ValueIdxCore

@[expose] public section

noncomputable section

namespace Cert.Correct

open Idealize.ShloMosaic Idealize.ShloMosaic.ValueIdx

variable {F : FTy → Type} [FloatOps F]

/-- Column `c` is the second member of a pair: an odd column of a house's first 24, or of the staircase or corridor. -/
def Second (c : Nat) : Prop := c % 2 = 1 ∧ (c < 312 ∧ c % 26 < 24 ∨ 312 ≤ c ∧ c < 328)

instance (c : Nat) : Decidable (Second c) := inferInstanceAs (Decidable (_ ∧ _))

/-- The number zero, from its word. -/
def zero : F .f32 := FloatOps.ofBits .f32 0x00000000#32

/-- The second member `o` of a pair whose first member is `e`: zero where `e` compares equal to zero. -/
def keep (e o : F .f32) : F .f32 := Scalar.select (FloatOps.cmpf .oeq e zero) zero o

/-- An index one column to the left (of column 0: column 0 itself, which is never asked for). -/
def left {n w : Nat} (j : (⟨2, ![n, w]⟩ : Shape).Idx) : (⟨2, ![n, w]⟩ : Shape).Idx :=
  ix2 (j 0) ⟨(j 1).val - 1, Nat.lt_of_le_of_lt (Nat.sub_le _ _) (idx2_lt1 j)⟩

/-- The rows `x` with the second member of every pair corrected. -/
def corrected {n : Nat} (x : (⟨2, ![n, 330]⟩ : Shape).Idx → F .f32) : (⟨2, ![n, 330]⟩ : Shape).Idx → F .f32 :=
  fun j => if Second (j 1).val then keep (x (left j)) (x j) else x j

/-- The correction looks at no other row: where two arrays agree at an index and one column to its left, in the same
    column of each, so do their corrections. -/
theorem corrected_congr {n n' : Nat} (x : (⟨2, ![n, 330]⟩ : Shape).Idx → F .f32) (x' : (⟨2, ![n', 330]⟩ : Shape).Idx → F .f32)
    (j : (⟨2, ![n, 330]⟩ : Shape).Idx) (j' : (⟨2, ![n', 330]⟩ : Shape).Idx) (hc : (j 1).val = (j' 1).val) (hx : x j = x' j')
    (hl : x (left j) = x' (left j')) : corrected x j = corrected x' j' := by
  unfold corrected
  rw [hc, hx, hl]

end Cert.Correct

end
-- ==== Proof.Correct.Block.lean ====
/-
  What the kernel's body computes of one block of 4096 rows: the block's correction. The body rolls the rows one column
  to the right, forms the mask of the columns that hold a second member from a column iota, and selects.
-/
module

public import proofs.«01_k».proof.Proof.Correct.Spec
public import proofs.«01_k».proof.Proof.Gen.KernelIdeal.Skeleton
public import proofs.«01_k».proof.Proof.Gen.Kernel.Skeleton

@[expose] public section

noncomputable section

namespace Cert.Correct

open Idealize.ShloMosaic Idealize.ShloMosaic.ValueIdx

variable {F : FTy → Type} [FloatOps F]

/-- The body's mask at a column's word: odd, and either in a house (below 312, the remainder modulo 26, made
    non-negative, below 24) or from 312 to 327. -/
def maskWord (c : BitVec 32) : BitVec 1 :=
  let d : BitVec 32 := Scalar.select (Scalar.cmpi .eq 26#32 0#32) 1#32 26#32
  let r := IntOp.remsi .vector c d
  let r' := Scalar.select (IntOp.andi (IntOp.xori (IntOp.cmpi .slt r 0#32) (Scalar.cmpi .slt d 0#32)) (IntOp.cmpi .ne r 0#32)) (IntOp.addi r d) r
  IntOp.andi (IntOp.cmpi .eq (IntOp.andi c 1#32) 1#32)
    (IntOp.ori (IntOp.andi (IntOp.cmpi .slt c 312#32) (IntOp.cmpi .slt r' 24#32))
      (IntOp.andi (IntOp.cmpi .sge c 312#32) (IntOp.cmpi .slt c 328#32)))

/-- It is set at the columns that hold a second member and at no other. -/
theorem maskWord_eq : ∀ c < 330, maskWord (BitVec.ofNat 32 c) = if Second c then 1#1 else 0#1 := by
  decide +kernel

/-- The rows rolled one column to the right, read at a column that is not the first: the column to the left. -/
theorem roll_apply (x : (⟨2, ![4096, 330]⟩ : Shape).Idx → F .f32) (h1 h2 hc) (j : (⟨2, ![4096, 330]⟩ : Shape).Idx) (hj : 0 < (j 1).val) :
    concatenate ⟨2, ![4096, 330]⟩ 1
      [⟨⟨2, ![4096, 1]⟩, extractStridedSlice ⟨2, ![4096, 1]⟩ ![0, 329] x h1⟩, ⟨⟨2, ![4096, 329]⟩, extractStridedSlice ⟨2, ![4096, 329]⟩ ![0, 0] x h2⟩] hc j
      = x (left j) := by
  have := idx2_lt1 j
  rw [concatenate_pair_apply_right (s₁ := ⟨2, ![4096, 1]⟩) (s₂ := ⟨2, ![4096, 329]⟩) (t := ⟨2, ![4096, 330]⟩) 1 _ _ hc j rfl rfl
    (ix2 (j 0) ⟨(j 1).val - 1, by omega⟩) (fun b hb => match b with | ⟨0, _⟩ => rfl | ⟨1, _⟩ => absurd rfl hb)
    (by show (j 1).val - 1 + 1 = (j 1).val; omega)]
  refine extractStridedSlice_apply _ x h2 _ (left j) fun d => ?_
  match d with
  | ⟨0, _⟩ => show (j 0).val = 0 + (j 0).val
              omega
  | ⟨1, _⟩ => show (j 1).val - 1 = 0 + ((j 1).val - 1)
              omega

/-- THE BLOCK: the body's value of a block is the block corrected. -/
theorem pay_eq (x : Vec F Cert.KernelIdeal.S4096x330 .f32) : Cert.KernelIdeal.Gen.k0_pay1 x = corrected (n := 4096) x := by
  funext j
  have hj := idx2_lt1 j
  show Scalar.select (IntOp.andi (maskWord (iota .tc Cert.KernelIdeal.S4096x330 32 [1] Cert.KernelIdeal.Gen.iota_S4096x330_d1_w32 j))
    (FloatOps.cmpf .oeq (concatenate Cert.KernelIdeal.S4096x330 1
      [⟨Cert.KernelIdeal.S4096x1, extractStridedSlice Cert.KernelIdeal.S4096x1 ![0, 329] x Cert.KernelIdeal.Gen.slices_S4096x330_o0_329_S4096x1⟩,
       ⟨Cert.KernelIdeal.S4096x329, extractStridedSlice Cert.KernelIdeal.S4096x329 ![0, 0] x Cert.KernelIdeal.Gen.slices_S4096x330_o0_0_S4096x329⟩]
      Cert.KernelIdeal.Gen.concatenates_S4096x1_S4096x329_S4096x330_d1 j) zero)) zero (x j) = corrected (n := 4096) x j
  rw [iota_single_apply, maskWord_eq _ hj]
  unfold corrected
  by_cases h : Second (j 1).val
  · rw [if_pos h, if_pos h, roll_apply x _ _ _ j (by unfold Second at h; omega)]
    have h1 : ∀ b : BitVec 1, IntOp.andi 1#1 b = b := by decide
    rw [h1]
    rfl
  · rw [if_neg h, if_neg h]
    have h0 : ∀ b : BitVec 1, IntOp.andi 0#1 b = 0#1 := by decide
    rw [h0]
    rfl

/-- The same of the kernel as compiled: one text. -/
theorem pay_eq_bits (x : Vec F Cert.Kernel.S4096x330 .f32) : Cert.Kernel.Gen.k0_pay1 x = corrected (n := 4096) x :=
  pay_eq x

end Cert.Correct

end
-- ==== Proof.Correct.Launches.lean ====
/-
  What the two launches leave in the result array: the argument array corrected. A grid point's block is 4096 whole
  rows, and the correction looks at no other row, so the correction of a block is the block of the correction.
-/
module

public import proofs.«01_k».proof.Proof.Correct.Block
public import proofs.«01_k».proof.Proof.Gen.KernelIdeal.Value
public import proofs.«01_k».proof.Proof.Gen.Kernel.Value
public import Idealize.ShloMosaic.Lib.Pipeline.ValueKit

@[expose] public section

set_option maxRecDepth 16384

noncomputable section

namespace Cert.Correct

open Idealize.ShloMosaic Idealize.ShloMosaic.TcCoe Idealize.ShloMosaic.ValueIdx Idealize.SL.Sem
open Idealize.ShloMosaic.Pipeline (Dat)

variable {F : FTy → Type} [FloatOps F]

/-! ## `KernelIdeal` -/

namespace KernelIdeal

open Cert.KernelIdeal Cert.KernelIdeal.Gen

variable (m : (ℓ : Loc nD τ sig) → Buf (Elt F) ℓ) (ρ : Dev nD → PrngReg)

/-- At every grid point the two windows are at the same block: the point's number along the rows. -/
theorem index_eq : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- The result array after the launch is the argument array corrected. -/
theorem final (c : Dev nD) : (dats m 0 c).arrAt 1 cfg0.N = corrected (n := 16384) (m ((c : Thread nD τ).loc main_arg0)) := by
  refine (dats m 0 c).arrAt_eq_of_covers 1 _ (by decide +kernel) fun t hf y => ?_
  have e0 := (index_eq t).1
  have e1 := (index_eq t).2
  blk_simp
  rw [after0_1]
  frame_out
  rw [pay_eq]
  refine corrected_congr _ _ _ _ ?_ ?_ ?_
  · blk_simp [e1]
  · blk_ext [iblk, V, e0, e1]
  · unfold left
    blk_ext [iblk, V, e0, e1]
    show t.val * 4096 + (y 0).val = (((View.whole main_v0).slice (win0_1.rect t)).emb y 0).val
    blk_simp [e1]

/-- Every run ends with the result array at the correction of the argument array, and the argument array unchanged. -/
theorem run : θ_run defs (onTc (τ := τ) (main (F := F))) ⟨m, fun _ => 0, ρ⟩ fun r => ∀ c : Dev nD,
      r.2.mem ((c : Thread nD τ).loc main_v0) = corrected (n := 16384) (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end KernelIdeal

/-! ## `Kernel` -/

namespace Kernel

open Cert.Kernel Cert.Kernel.Gen

variable (m : (ℓ : Loc nD τ sig) → Buf (Elt F) ℓ) (ρ : Dev nD → PrngReg)

/-- At every grid point the two windows are at the same block: the point's number along the rows. -/
theorem index_eq : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- The result array after the launch is the argument array corrected. -/
theorem final (c : Dev nD) : (dats m 0 c).arrAt 1 cfg0.N = corrected (n := 16384) (m ((c : Thread nD τ).loc main_arg0)) := by
  refine (dats m 0 c).arrAt_eq_of_covers 1 _ (by decide +kernel) fun t hf y => ?_
  have e0 := (index_eq t).1
  have e1 := (index_eq t).2
  blk_simp
  rw [after0_1]
  frame_out
  rw [pay_eq_bits]
  refine corrected_congr _ _ _ _ ?_ ?_ ?_
  · blk_simp [e1]
  · blk_ext [iblk, V, e0, e1]
  · unfold left
    blk_ext [iblk, V, e0, e1]
    show t.val * 4096 + (y 0).val = (((View.whole main_v0).slice (win0_1.rect t)).emb y 0).val
    blk_simp [e1]

/-- Every run ends with the result array at the correction of the argument array, and the argument array unchanged. -/
theorem run : θ_run defs (onTc (τ := τ) (main (F := F))) ⟨m, fun _ => 0, ρ⟩ fun r => ∀ c : Dev nD,
      r.2.mem ((c : Thread nD τ).loc main_v0) = corrected (n := 16384) (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Kernel

end Cert.Correct

end
-- ==== Proof.Correct.Pairs.lean ====
/-
  The reference's correction of one group of pairs, at any group width, read at an index: split the even columns from
  the odd ones, replace an odd one by zero where the even one is zero, and interleave the two again.
-/
module

public import proofs.«01_k».proof.Proof.Correct.Spec
public import Idealize.ShloMosaic.PureOps.Vector

@[expose] public section

noncomputable section

namespace Cert.Correct

open Idealize.ShloMosaic Idealize.ShloMosaic.ValueIdx

variable {F : FTy → Type} [FloatOps F]

/-- A matrix shape and a shape of three axes. -/
abbrev Mat (n w : Nat) : Shape := ⟨2, ![n, w]⟩
abbrev Box (n w d : Nat) : Shape := ⟨3, ![n, w, d]⟩

/-- `n` rows of `p` pairs, of width `w`, corrected the way the reference does it. -/
def correctPairs {n w p : Nat} (he : (Mat n w).SlicesBy ![0, 0] ![1, 2] (Mat n p)) (ho : (Mat n w).SlicesBy ![0, 1] ![1, 2] (Mat n p))
    (hz : (⟨0, ![]⟩ : Shape).BroadcastsInDim (Mat n p) ![]) (hb : (Mat n p).BroadcastsInDim (Box n p 1) ![0, 1])
    (hc : Shape.Concatenates [Box n p 1, Box n p 1] (Box n p 2) 2) (hs : (Box n p 2).ShapeCasts (Mat n w))
    (t : FVec F (Mat n w) .f32) : FVec F (Mat n w) .f32 :=
  shapeCast (Mat n w) (concatenate (Box n p 2) 2
    [⟨Box n p 1, broadcastInDim (Box n p 1) ![0, 1] hb (Host.slice (Mat n p) ![0, 0] ![1, 2] t he)⟩,
     ⟨Box n p 1, broadcastInDim (Box n p 1) ![0, 1] hb
      (select (cmpf .oeq (Host.slice (Mat n p) ![0, 0] ![1, 2] t he) (broadcastInDim (Mat n p) ![] hz (constant ⟨0, ![]⟩ .f32 0x00000000#32)))
        (broadcastInDim (Mat n p) ![] hz (constant ⟨0, ![]⟩ .f32 0x00000000#32))
        (Host.slice (Mat n p) ![0, 1] ![1, 2] t ho))⟩] hc) hs

/-- A new last axis of extent one: the operand at the first two coordinates. -/
theorem broadcastInDim_last {n p : Nat} {α : Type} (hb : (Mat n p).BroadcastsInDim (Box n p 1) ![0, 1]) (x : (Mat n p).Idx → α)
    (a : Fin n) (b : Fin p) (z : Fin 1) : broadcastInDim (Box n p 1) ![0, 1] hb x (ix3 a b z) = x (ix2 a b) := by
  refine broadcastInDim_apply _ _ _ _ _ fun d => ?_
  match d with
  | ⟨0, _⟩ => show a.val = if n = 1 then 0 else a.val
              have := a.isLt; split <;> omega
  | ⟨1, _⟩ => show b.val = if p = 1 then 0 else b.val
              have := b.isLt; split <;> omega

/-- Every second column from column `o` on. -/
theorem slice_cols {n w p o : Nat} {α : Type} (h : (Mat n w).SlicesBy ![0, o] ![1, 2] (Mat n p)) (x : (Mat n w).Idx → α)
    (a : Fin n) (b : Fin p) (k : (Mat n w).Idx) (h0 : (k 0).val = a.val) (h1 : (k 1).val = o + 2 * b.val) :
    Host.slice (Mat n p) ![0, o] ![1, 2] x h (ix2 a b) = x k := by
  unfold Host.slice
  refine congrArg x (Shape.idx_ext₂ ?_ ?_)
  · show 0 + 1 * a.val = (k 0).val
    omega
  · exact h1.symm

/-- The corrected group at an index: an odd column is corrected by the column to its left, an even one is copied. -/
theorem correctPairs_apply {n w p : Nat} (he ho hz hb hc hs) (hw : w = 2 * p) (t : FVec F (Mat n w) .f32) (j : (Mat n w).Idx) :
    correctPairs (p := p) he ho hz hb hc hs t j = if (j 1).val % 2 = 1 then keep (t (left j)) (t j) else t j := by
  obtain ⟨a, b, rfl⟩ : ∃ (a : Fin n) (b : Fin w), j = ix2 a b := ⟨j 0, j 1, eq_ix2 j⟩
  show _ = if b.val % 2 = 1 then keep (t (left (ix2 a b))) (t (ix2 a b)) else t (ix2 a b)
  have hb2 : b.val / 2 < p := by omega
  unfold correctPairs
  rw [shapeCast_apply _ hs (ix2 a b) (ix3 a ⟨b.val / 2, hb2⟩ ⟨b.val % 2, Nat.mod_lt _ (by decide)⟩) (by
    rw [Shape.rowMajor_val_three, Shape.rowMajor_val_two]
    show (a.val * p + b.val / 2) * 2 + b.val % 2 = a.val * w + b.val
    have : (a.val * p) * 2 = a.val * w := by rw [hw, Nat.mul_assoc, Nat.mul_comm p 2]
    omega)]
  split
  · next ho1 =>
    rw [concatenate_pair_apply_right (s₁ := Box n p 1) (s₂ := Box n p 1) (t := Box n p 2) 2 _ _ hc _ rfl rfl
      (ix3 a ⟨b.val / 2, hb2⟩ (0 : Fin 1)) (fun d hd => by
        match d with
        | ⟨0, _⟩ => rfl
        | ⟨1, _⟩ => rfl
        | ⟨2, _⟩ => exact absurd rfl hd) (by show 0 + 1 = b.val % 2; omega), broadcastInDim_last]
    show Scalar.select (FloatOps.cmpf .oeq (Host.slice (Mat n p) ![0, 0] ![1, 2] t he _) zero) zero
      (Host.slice (Mat n p) ![0, 1] ![1, 2] t ho _) = _
    rw [slice_cols he t a ⟨b.val / 2, hb2⟩ (left (ix2 a b)) rfl (by show b.val - 1 = 0 + 2 * (b.val / 2); omega),
      slice_cols ho t a ⟨b.val / 2, hb2⟩ (ix2 a b) rfl (by show b.val = 1 + 2 * (b.val / 2); omega)]
    rfl
  · next he1 =>
    rw [concatenate_pair_apply_left (s₁ := Box n p 1) (s₂ := Box n p 1) (t := Box n p 2) 2 _ _ hc _ rfl
      (ix3 a ⟨b.val / 2, hb2⟩ (0 : Fin 1)) (fun d => by
        match d with
        | ⟨0, _⟩ => rfl
        | ⟨1, _⟩ => rfl
        | ⟨2, _⟩ => show 0 = b.val % 2; omega), broadcastInDim_last]
    exact slice_cols he t a ⟨b.val / 2, hb2⟩ (ix2 a b) rfl (by show b.val = 0 + 2 * (b.val / 2); omega)

end Cert.Correct

end
-- ==== Proof.Correct.Whole.lean ====
/-
  The reference as one function of the argument array, and that function read at an index: the row is cut into its
  houses, staircase, corridor and tail, the pairs of each are corrected, and the pieces are laid end to end again.
-/
module

public import proofs.«01_k».proof.Proof.Correct.Pairs
public import proofs.«01_k».proof.Proof.Gen.ReferenceIdeal

@[expose] public section

noncomputable section

namespace Cert.Correct

open Idealize.ShloMosaic Idealize.ShloMosaic.ValueIdx Cert.ReferenceIdeal.Gen

variable {F : FTy → Type} [FloatOps F]

/-- Where a unit-stride slice of columns reads: `o` columns to the right, in the same row. -/
theorem slice_at {n w p o : Nat} {α : Type} (h : (Mat n w).Slices ![0, o] (Mat n p)) (x : (Mat n w).Idx → α) (a : Fin n) (b : Fin p)
    (c : Fin w) (hc : c.val = o + b.val) : extractStridedSlice (Mat n p) ![0, o] x h (ix2 a b) = x (ix2 a c) :=
  extractStridedSlice_apply _ x h (ix2 a b) (ix2 a c) fun d => match d with
    | ⟨0, _⟩ => (Nat.zero_add a.val).symm
    | ⟨1, _⟩ => hc

/-- The correction at a row and a column that holds a second member. -/
theorem corrected_pos {n : Nat} (x : FVec F (Mat n 330) .f32) (a : Fin n) (c d : Fin 330) (hs : Second c.val) (hd : d.val = c.val - 1) :
    corrected x (ix2 a c) = keep (x (ix2 a d)) (x (ix2 a c)) := by
  obtain rfl : d = ⟨c.val - 1, Nat.lt_of_le_of_lt (Nat.sub_le _ _) c.isLt⟩ := Fin.ext hd
  exact if_pos hs

/-- The correction at any other column. -/
theorem corrected_neg {n : Nat} (x : FVec F (Mat n 330) .f32) (a : Fin n) (c : Fin 330) (hs : ¬ Second c.val) :
    corrected x (ix2 a c) = x (ix2 a c) := if_neg hs

/-- A group of pairs cut out of the argument array at columns that hold pairs, and corrected, is the same columns of
    the corrected array: `y` is the cut, `o` the column it starts at. -/
theorem group_apply {n w p : Nat} (he ho hz hb hc hs) (hw : w = 2 * p) (x : FVec F (Mat n 330) .f32) (y : FVec F (Mat n w) .f32) (o : Nat)
    (hy : ∀ (a : Fin n) (b : Fin w) (c : Fin 330), c.val = o + b.val → y (ix2 a b) = x (ix2 a c))
    (hS : ∀ b < w, Second (o + b) ↔ b % 2 = 1) (a : Fin n) (b : Fin w) (c : Fin 330) (h : c.val = o + b.val) :
    correctPairs (p := p) he ho hz hb hc hs y (ix2 a b) = corrected x (ix2 a c) := by
  have hbS : Second c.val ↔ b.val % 2 = 1 := h ▸ hS b.val b.isLt
  rw [correctPairs_apply _ _ _ _ _ _ hw]
  show (if b.val % 2 = 1 then keep (y (ix2 a ⟨b.val - 1, _⟩)) (y (ix2 a b)) else y (ix2 a b)) = _
  by_cases h1 : b.val % 2 = 1
  · rw [if_pos h1, corrected_pos x a c ⟨c.val - 1, by omega⟩ (hbS.2 h1) rfl, hy a b c h,
      hy a ⟨b.val - 1, by omega⟩ ⟨c.val - 1, by omega⟩ (by show c.val - 1 = o + (b.val - 1); omega)]
  · rw [if_neg h1, corrected_neg x a c (fun hc => h1 (hbS.1 hc)), hy a b c h]

/-- House `q`'s 26 columns lie inside the 312 columns of all houses. -/
theorem house_slices (q : Fin 12) : (Mat 16384 312).Slices ![0, 26 * q.val] (Mat 16384 26) := by
  revert q; decide

/-- House `q` corrected: its first 24 columns as pairs, its last two copied. -/
def house (y : FVec F (Mat 16384 312) .f32) (q : Fin 12) : FVec F (Mat 16384 26) .f32 :=
  concatenate (Mat 16384 26) 1
    [⟨Mat 16384 24, correctPairs (p := 12) slicesBy_S16384x24_S16384x12_0s1_0s2 slicesBy_S16384x24_S16384x12_0s1_1s2 bcast_S_S16384x12
      bcast_S16384x12_S16384x12x1_0_1 concatenates_S16384x12x1_S16384x12x1_S16384x12x2_d2 shapeCasts_S16384x12x2_S16384x24
      (extractStridedSlice (Mat 16384 24) ![0, 0] (extractStridedSlice (Mat 16384 26) ![0, 26 * q.val] y (house_slices q)) slices_S16384x26_S16384x24_0_0)⟩,
     ⟨Mat 16384 2, extractStridedSlice (Mat 16384 2) ![0, 24] (extractStridedSlice (Mat 16384 26) ![0, 26 * q.val] y (house_slices q)) slices_S16384x26_S16384x2_0_24⟩]
    concatenates_S16384x24_S16384x2_S16384x26_d1

/-- The eight columns from column `o` on, corrected as four pairs. -/
def four (x : FVec F (Mat 16384 330) .f32) (o : Nat) (h : (Mat 16384 330).Slices ![0, o] (Mat 16384 8)) : FVec F (Mat 16384 8) .f32 :=
  correctPairs (p := 4) slicesBy_S16384x8_S16384x4_0s1_0s2 slicesBy_S16384x8_S16384x4_0s1_1s2 bcast_S_S16384x4
    bcast_S16384x4_S16384x4x1_0_1 concatenates_S16384x4x1_S16384x4x1_S16384x4x2_d2 shapeCasts_S16384x4x2_S16384x8
    (extractStridedSlice (Mat 16384 8) ![0, o] x h)

/-- Twelve arrays of 26 columns laid end to end have 312 columns. -/
theorem houses_cat (y : Fin 12 → FVec F (Mat 16384 26) .f32) :
    Shape.Concatenates ((List.ofFn fun q => (⟨Mat 16384 26, y q⟩ : (s : Shape) × (s.Idx → F .f32))).map (·.1)) (Mat 16384 312) 1 :=
  concatenates_S16384x26_S16384x26_S16384x26_S16384x26_S16384x26_S16384x26_S16384x26_S16384x26_S16384x26_S16384x26_S16384x26_S16384x26_S16384x312_d1

/-- All houses corrected, laid end to end. -/
def houses (x : FVec F (Mat 16384 330) .f32) : FVec F (Mat 16384 312) .f32 :=
  concatenate (Mat 16384 312) 1
    (List.ofFn fun q : Fin 12 => ⟨Mat 16384 26, house (extractStridedSlice (Mat 16384 312) ![0, 0] x slices_S16384x330_S16384x312_0_0) q⟩) (houses_cat _)

/-- The whole row: houses, staircase, corridor, tail. -/
def whole (x : FVec F (Mat 16384 330) .f32) : FVec F (Mat 16384 330) .f32 :=
  concatenate (Mat 16384 330) 1
    [⟨Mat 16384 312, houses x⟩, ⟨Mat 16384 8, four x 312 slices_S16384x330_S16384x8_0_312⟩, ⟨Mat 16384 8, four x 320 slices_S16384x330_S16384x8_0_320⟩,
     ⟨Mat 16384 2, extractStridedSlice (Mat 16384 2) ![0, 328] x slices_S16384x330_S16384x2_0_328⟩]
    concatenates_S16384x312_S16384x8_S16384x8_S16384x2_S16384x330_d1

/-- A house at a row and a column: the corrected array at the same row and at the column that holds it. -/
theorem house_apply (x : FVec F (Mat 16384 330) .f32) (q : Fin 12) (a : Fin 16384) (b : Fin 26) (c : Fin 330) (h : c.val = 26 * q.val + b.val) :
    house (extractStridedSlice (Mat 16384 312) ![0, 0] x slices_S16384x330_S16384x312_0_0) q (ix2 a b) = corrected x (ix2 a c) := by
  have hq := q.isLt
  have cut (a : Fin 16384) (b : Fin 26) (c : Fin 330) (h : c.val = 26 * q.val + b.val) :
      extractStridedSlice (Mat 16384 26) ![0, 26 * q.val]
        (extractStridedSlice (Mat 16384 312) ![0, 0] x slices_S16384x330_S16384x312_0_0) (house_slices q) (ix2 a b) = x (ix2 a c) := by
    rw [slice_at (w := 312) _ _ a b ⟨c.val, by omega⟩ h, slice_at (w := 330) (p := 312) _ _ a _ c (by show c.val = 0 + c.val; omega)]
  unfold house
  by_cases hb : b.val < 24
  · rw [concatenate_pair_apply_left (s₁ := Mat 16384 24) (s₂ := Mat 16384 2) (t := Mat 16384 26) 1 _ _ _ (ix2 a b) rfl (ix2 a ⟨b.val, hb⟩)
      (fun d => match d with | ⟨0, _⟩ => rfl | ⟨1, _⟩ => rfl)]
    refine group_apply (w := 24) (p := 12) _ _ _ _ _ _ rfl x _ (26 * q.val) (fun a' b' c' h' => ?_) (fun b' hb' => by unfold Second; omega) a ⟨b.val, hb⟩ c h
    rw [slice_at (w := 26) _ _ a' b' ⟨b'.val, by omega⟩ (Nat.zero_add _).symm, cut a' ⟨b'.val, by omega⟩ c' h']
  · rw [concatenate_pair_apply_right (s₁ := Mat 16384 24) (s₂ := Mat 16384 2) (t := Mat 16384 26) 1 _ _ _ (ix2 a b) rfl rfl
      (ix2 a ⟨b.val - 24, by omega⟩) (fun d hd => match d with | ⟨0, _⟩ => rfl | ⟨1, _⟩ => absurd rfl hd)
      (by show b.val - 24 + 24 = b.val; omega),
      slice_at (w := 26) _ _ a _ b (by show b.val = 24 + (b.val - 24); omega), cut a b c h, corrected_neg x a c (by unfold Second; omega)]

/-- The staircase or the corridor at a row and a column: the corrected array at the column that holds it. -/
theorem four_apply (x : FVec F (Mat 16384 330) .f32) (o : Nat) (hs) (ho : o = 312 ∨ o = 320) (a : Fin 16384) (b : Fin 8) (c : Fin 330)
    (h : c.val = o + b.val) : four x o hs (ix2 a b) = corrected x (ix2 a c) := by
  unfold four
  exact group_apply (w := 8) (p := 4) _ _ _ _ _ _ rfl x _ o (fun a' b' c' h' => slice_at (w := 330) _ _ a' b' c' h')
    (fun b' hb' => by unfold Second; omega) a b c h

/-- The houses at a row and a column. -/
theorem houses_apply (x : FVec F (Mat 16384 330) .f32) (a : Fin 16384) (b : Fin 312) (c : Fin 330) (h : c.val = b.val) :
    houses x (ix2 a b) = corrected x (ix2 a c) := by
  unfold houses
  rw [concatenate_ofFn_apply (s₁ := Mat 16384 26) (t := Mat 16384 312) 1 _ _ rfl 26 rfl (ix2 a b) ⟨b.val / 26, by omega⟩ rfl
    (ix2 a ⟨b.val % 26, by omega⟩) rfl (fun d hd => match d with | ⟨0, _⟩ => rfl | ⟨1, _⟩ => absurd rfl hd)]
  exact house_apply x _ a _ c (by show c.val = 26 * (b.val / 26) + b.val % 26; omega)

/-- The reference's function IS the correction, index by index. -/
theorem whole_eq (x : FVec F (Mat 16384 330) .f32) : whole x = corrected x := by
  funext j
  obtain ⟨a, c, rfl⟩ : ∃ (a : Fin 16384) (c : Fin 330), j = ix2 a c := ⟨j 0, j 1, eq_ix2 j⟩
  have hc := c.isLt
  -- piece `p` of the last concatenation, of width `w` and `o` columns in
  have piece {w : Nat} (p o : Nat) (y : FVec F (Mat 16384 w) .f32) (xs : List ((s : Shape) × (s.Idx → F .f32))) (hcat) (hp : p < xs.length)
      (hx : xs[p] = ⟨Mat 16384 w, y⟩)
      (hpre : (((xs.take p).map (·.1)).map fun s => if h : s.rank = (Mat 16384 330).rank then s.size ((1 : Fin 2).cast h.symm) else 0).sum = o)
      (b : Fin w) (hb : o + b.val = c.val) : concatenate (Mat 16384 330) 1 xs hcat (ix2 a c) = y (ix2 a b) :=
    concatenate_apply_piece (t := Mat 16384 330) 1 xs hcat (ix2 a c) p hp _ y hx rfl o hpre (ix2 a b)
      (fun d hd => match d with | ⟨0, _⟩ => rfl | ⟨1, _⟩ => absurd rfl hd) hb
  unfold whole
  rcases Nat.lt_or_ge c.val 312 with c1 | c1
  · rw [piece (w := 312) 0 0 (houses x) _ _ (by show 0 < 4; decide) rfl rfl ⟨c.val, c1⟩ (Nat.zero_add _)]
    exact houses_apply x a _ c rfl
  rcases Nat.lt_or_ge c.val 320 with c2 | c2
  · have e : 312 + (c.val - 312) = c.val := by omega
    rw [piece (w := 8) 1 312 _ _ _ (by show 1 < 4; decide) rfl rfl ⟨c.val - 312, by omega⟩ e]
    exact four_apply x _ _ (.inl rfl) a _ c e.symm
  rcases Nat.lt_or_ge c.val 328 with c3 | c3
  · have e : 320 + (c.val - 320) = c.val := by omega
    rw [piece (w := 8) 2 320 _ _ _ (by show 2 < 4; decide) rfl rfl ⟨c.val - 320, by omega⟩ e]
    exact four_apply x _ _ (.inr rfl) a _ c e.symm
  · have e : 328 + (c.val - 328) = c.val := by omega
    rw [piece (w := 2) 3 328 _ _ _ (by show 3 < 4; decide) rfl rfl ⟨c.val - 328, by omega⟩ e]
    rw [slice_at (w := 330) _ _ a _ c e.symm, corrected_neg x a c (by unfold Second; omega)]

end Cert.Correct

end
-- ==== Proof.Correct.References.lean ====
/-
  What the two references leave in their result: the argument corrected. The composed term of each is the function
  `whole` of its argument array, by definition.
-/
module

public import proofs.«01_k».proof.Proof.Correct.Whole
public import proofs.«01_k».proof.Proof.Gen.ReferenceIdeal.Run
public import proofs.«01_k».proof.Proof.Gen.Reference.Run

@[expose] public section

set_option maxRecDepth 16384

noncomputable section

namespace Cert.Correct

open Idealize.ShloMosaic Idealize.ShloMosaic.TcCoe Idealize.SL.Sem

variable {F : FTy → Type} [FloatOps F]

/-- `ReferenceIdeal` ends with its result at the correction of its argument, and its argument unchanged. -/
theorem run_ReferenceIdeal (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v193)
        = corrected (n := 16384) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) :=
  (θ_run Cert.ReferenceIdeal.defs _ _).mono (fun _ h c => ⟨(h c).1.trans (whole_eq (m ((c.tc : Thread Cert.ReferenceIdeal.nD Cert.ReferenceIdeal.τ).loc Cert.ReferenceIdeal.main_arg0))), (h c).2⟩)
    (Cert.ReferenceIdeal.Value.run m ρ)

/-- `Reference` ends with its result at the correction of its argument, and its argument unchanged. -/
theorem run_Reference (m : (ℓ : Loc Cert.Reference.nD Cert.Reference.τ Cert.Reference.sig) → Buf (Elt F) ℓ) (ρ : Dev Cert.Reference.nD → PrngReg) :
    θ_run Cert.Reference.defs (onTc (τ := Cert.Reference.τ) (Cert.Reference.main (F := F))) ⟨m, fun _ => 0, ρ⟩ fun r => ∀ c : Dev Cert.Reference.nD,
      r.2.mem ((c.tc : Thread Cert.Reference.nD Cert.Reference.τ).loc Cert.Reference.main_v193)
        = corrected (n := 16384) (m ((c.tc : Thread Cert.Reference.nD Cert.Reference.τ).loc Cert.Reference.main_arg0))
      ∧ r.2.mem ((c.tc : Thread Cert.Reference.nD Cert.Reference.τ).loc Cert.Reference.main_arg0) = m ((c.tc : Thread Cert.Reference.nD Cert.Reference.τ).loc Cert.Reference.main_arg0) :=
  (θ_run Cert.Reference.defs _ _).mono (fun _ h c => ⟨(h c).1.trans (whole_eq (m ((c.tc : Thread Cert.Reference.nD Cert.Reference.τ).loc Cert.Reference.main_arg0))), (h c).2⟩)
    (Cert.Reference.Value.run m ρ)

end Cert.Correct

end
-- ==== Proof.lean ====
/-
  The certificate's claims, assembled. Each launch and each reference ends with its result at the correction of its
  argument (Proof/Correct/Launches.lean, Proof/Correct/References.lean), for any reading of the float operations, so the
  two value claims are the same argument at the two readings.
-/
module

public import proofs.«01_k».proof.Defs
public import proofs.«01_k».proof.Proof.Correct.Launches
public import proofs.«01_k».proof.Proof.Correct.References
public import Idealize.ShloMosaic.Lib.Quiescent

@[expose] public section

noncomputable section

namespace Cert.Proof

open Idealize.ShloMosaic Idealize.SL.Sem Cert.Correct

/-- The kernel runs, leaves its argument unchanged and every semaphore counter at zero. -/
theorem quiescent_kernel : Cert.quiescent_Kernel := fun m ρ _ => Cert.Kernel.Gen.frame m ρ

/-- The same over exact arithmetic. -/
theorem quiescent_kernel_ideal : Cert.quiescent_KernelIdeal := fun m ρ _ => Cert.KernelIdeal.Gen.frame m ρ

/-- The reference runs, leaves its argument unchanged and every semaphore counter at zero: it has no semaphores. -/
theorem quiescent_reference : Cert.quiescent_Reference := fun m ρ _ =>
  (θ_run Cert.Reference.defs _ _).mono (fun r h => ⟨fun c => (h c).2, sem_eq_zero_of_no_sems (by decide) r.2⟩) (run_Reference m ρ)

/-- The same over exact arithmetic. -/
theorem quiescent_reference_ideal : Cert.quiescent_ReferenceIdeal := fun m ρ _ =>
  (θ_run Cert.ReferenceIdeal.defs _ _).mono (fun r h => ⟨fun c => (h c).2, sem_eq_zero_of_no_sems (by decide) r.2⟩) (run_ReferenceIdeal m ρ)

/-- Over exact arithmetic, kernel and reference end with equal results on equal arguments. -/
theorem algebraic : Cert.algebraic_KernelIdeal_ReferenceIdeal := fun m ρ m' ρ' _ hagree =>
  ⟨fun c => corrected (F := Idealize.ShloMosaic.Ideal) (n := 16384) (m ((c.tc : Thread Cert.KernelIdeal.nD Cert.KernelIdeal.τ).loc Cert.KernelIdeal.main_arg0)), Cert.Correct.KernelIdeal.run m ρ, by
    refine (θ_run Cert.ReferenceIdeal.defs _ _).mono (fun _ h c => ⟨(h c).1.trans ?_, (h c).2⟩) (run_ReferenceIdeal m' ρ')
    rw [hagree c]⟩

/-- Over the bit-level floats, kernel and reference end with the same words on equal arguments. -/
theorem bitexact : Cert.bitexact_Kernel_Reference := fun m ρ m' ρ' _ hagree =>
  ⟨fun c => corrected (F := Bits) (n := 16384) (m ((c.tc : Thread Cert.Kernel.nD Cert.Kernel.τ).loc Cert.Kernel.main_arg0)), Cert.Correct.Kernel.run m ρ, by
    refine (θ_run Cert.Reference.defs _ _).mono (fun _ h c => ⟨(h c).1.trans ?_, (h c).2⟩) (run_Reference m' ρ')
    rw [hagree c]⟩

/-- All the claims together. -/
theorem claim : Cert.Claim :=
  ⟨Cert.Kernel.Gen.facts, Cert.KernelIdeal.Gen.facts, Cert.Reference.Gen.facts, Cert.ReferenceIdeal.Gen.facts,
    quiescent_kernel, quiescent_kernel_ideal, quiescent_reference, quiescent_reference_ideal, trivial, algebraic, bitexact⟩

end Cert.Proof

end
